-- ==== Defs.lean ====
def Pre_Whole (m : (ℓ : Loc Cert.Whole.nD Cert.Whole.τ Cert.Whole.sig) → Buf (Elt Bits) ℓ) : Prop :=
  True

def Pre_Quant (m : (ℓ : Loc Cert.Quant.nD Cert.Quant.τ Cert.Quant.sig) → Buf (Elt Bits) ℓ) : Prop :=
  True

def Pre_QuantRef (m : (ℓ : Loc Cert.QuantRef.nD Cert.QuantRef.τ Cert.QuantRef.sig) → Buf (Elt Bits) ℓ) : Prop :=
  True

def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulRefIdeal (m : (ℓ : Loc Cert.MatmulRefIdeal.nD Cert.MatmulRefIdeal.τ Cert.MatmulRefIdeal.sig) → Buf (Elt Ideal) ℓ) : Prop :=
  True

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantRef [hQuantRef : Cert.QuantRef.Facts] : Prop :=
  ∀ (m : (ℓ : Loc Cert.QuantRef.nD Cert.QuantRef.τ Cert.QuantRef.sig) → Buf (Elt Bits) ℓ) (g : Dev Cert.QuantRef.nD → PrngReg), Pre_QuantRef m →
    θ_run (Cert.QuantRef.defs (F := Bits)) (onTc (τ := Cert.QuantRef.τ) (Cert.QuantRef.main (F := Bits))) ⟨m, fun _ => 0, g⟩ (fun r => (∀ c : Dev Cert.QuantRef.nD,
      r.2.mem ((c.tc : Thread Cert.QuantRef.nD Cert.QuantRef.τ).loc Cert.QuantRef.main_arg0) = m ((c.tc : Thread Cert.QuantRef.nD Cert.QuantRef.τ).loc Cert.QuantRef.main_arg0))
      ∧ r.2.sem = fun _ => 0)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1)
      ∧ r.2.mem ((c.tc : Thread Cert.Matmul.nD Cert.Matmul.τ).loc Cert.Matmul.main_arg2) = m ((c.tc : Thread Cert.Matmul.nD Cert.Matmul.τ).loc Cert.Matmul.main_arg2)
      ∧ r.2.mem ((c.tc : Thread Cert.Matmul.nD Cert.Matmul.τ).loc Cert.Matmul.main_arg3) = m ((c.tc : Thread Cert.Matmul.nD Cert.Matmul.τ).loc Cert.Matmul.main_arg3))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
      ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
      ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ r.2.sem = fun _ => 0)

def quiescent_MatmulRefIdeal [hMatmulRefIdeal : Cert.MatmulRefIdeal.Facts] : Prop :=
  ∀ (m : (ℓ : Loc Cert.MatmulRefIdeal.nD Cert.MatmulRefIdeal.τ Cert.MatmulRefIdeal.sig) → Buf (Elt Ideal) ℓ) (g : Dev Cert.MatmulRefIdeal.nD → PrngReg), Pre_MatmulRefIdeal m →
    θ_run (Cert.MatmulRefIdeal.defs (F := Ideal)) (onTc (τ := Cert.MatmulRefIdeal.τ) (Cert.MatmulRefIdeal.main (F := Ideal))) ⟨m, fun _ => 0, g⟩ (fun r => (∀ c : Dev Cert.MatmulRefIdeal.nD,
      r.2.mem ((c.tc : Thread Cert.MatmulRefIdeal.nD Cert.MatmulRefIdeal.τ).loc Cert.MatmulRefIdeal.main_arg0) = m ((c.tc : Thread Cert.MatmulRefIdeal.nD Cert.MatmulRefIdeal.τ).loc Cert.MatmulRefIdeal.main_arg0)
      ∧ r.2.mem ((c.tc : Thread Cert.MatmulRefIdeal.nD Cert.MatmulRefIdeal.τ).loc Cert.MatmulRefIdeal.main_arg1) = m ((c.tc : Thread Cert.MatmulRefIdeal.nD Cert.MatmulRefIdeal.τ).loc Cert.MatmulRefIdeal.main_arg1)
      ∧ r.2.mem ((c.tc : Thread Cert.MatmulRefIdeal.nD Cert.MatmulRefIdeal.τ).loc Cert.MatmulRefIdeal.main_arg2) = m ((c.tc : Thread Cert.MatmulRefIdeal.nD Cert.MatmulRefIdeal.τ).loc Cert.MatmulRefIdeal.main_arg2)
      ∧ r.2.mem ((c.tc : Thread Cert.MatmulRefIdeal.nD Cert.MatmulRefIdeal.τ).loc Cert.MatmulRefIdeal.main_arg3) = m ((c.tc : Thread Cert.MatmulRefIdeal.nD Cert.MatmulRefIdeal.τ).loc Cert.MatmulRefIdeal.main_arg3))
      ∧ r.2.sem = fun _ => 0)

def bitexact_Quant_QuantRef [hQuant : Cert.Quant.Facts] [hQuantRef : Cert.QuantRef.Facts] : Prop :=
  ∀ (m : (ℓ : Loc Cert.Quant.nD Cert.Quant.τ Cert.Quant.sig) → Buf (Elt Bits) ℓ) (g : Dev Cert.Quant.nD → PrngReg)
    (m' : (ℓ : Loc Cert.QuantRef.nD Cert.QuantRef.τ Cert.QuantRef.sig) → Buf (Elt Bits) ℓ) (g' : Dev Cert.QuantRef.nD → PrngReg), Pre_Quant m →
    (∀ c : Dev Cert.Quant.nD,
      m' ((c.tc : Thread Cert.QuantRef.nD Cert.QuantRef.τ).loc Cert.QuantRef.main_arg0) = m ((c.tc : Thread Cert.Quant.nD Cert.Quant.τ).loc Cert.Quant.main_arg0)) →
    ∃ (v0 : (c : Dev Cert.Quant.nD) → Buf (Elt Bits) ((c.tc : Thread Cert.Quant.nD Cert.Quant.τ).loc Cert.Quant.main_v2)) (v1 : (c : Dev Cert.Quant.nD) → Buf (Elt Bits) ((c.tc : Thread Cert.Quant.nD Cert.Quant.τ).loc Cert.Quant.main_v3)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v2) = v0 c
          ∧ r.2.mem ((c.tc : Thread Cert.Quant.nD Cert.Quant.τ).loc Cert.Quant.main_v3) = v1 c
          ∧ r.2.mem ((c.tc : Thread Cert.Quant.nD Cert.Quant.τ).loc Cert.Quant.main_arg0) = m ((c.tc : Thread Cert.Quant.nD Cert.Quant.τ).loc Cert.Quant.main_arg0))
      ∧ θ_run (Cert.QuantRef.defs (F := Bits)) (onTc (τ := Cert.QuantRef.τ) (Cert.QuantRef.main (F := Bits))) ⟨m', fun _ => 0, g'⟩ (fun r => ∀ c : Dev Cert.QuantRef.nD,
          r.2.mem ((c.tc : Thread Cert.QuantRef.nD Cert.QuantRef.τ).loc Cert.QuantRef.main_v0_0) = v0 c
          ∧ r.2.mem ((c.tc : Thread Cert.QuantRef.nD Cert.QuantRef.τ).loc Cert.QuantRef.main_v0_1) = v1 c
          ∧ r.2.mem ((c.tc : Thread Cert.QuantRef.nD Cert.QuantRef.τ).loc Cert.QuantRef.main_arg0) = m' ((c.tc : Thread Cert.QuantRef.nD Cert.QuantRef.τ).loc Cert.QuantRef.main_arg0))

def preserves_Matmul_MatmulIdeal : Prop :=
  True

def algebraic_MatmulIdeal_MatmulRefIdeal [hMatmulIdeal : Cert.MatmulIdeal.Facts] [hMatmulRefIdeal : Cert.MatmulRefIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulRefIdeal.nD Cert.MatmulRefIdeal.τ Cert.MatmulRefIdeal.sig) → Buf (Elt Ideal) ℓ) (g' : Dev Cert.MatmulRefIdeal.nD → PrngReg), Pre_MatmulIdeal m →
    (∀ c : Dev Cert.MatmulIdeal.nD,
      m' ((c.tc : Thread Cert.MatmulRefIdeal.nD Cert.MatmulRefIdeal.τ).loc Cert.MatmulRefIdeal.main_arg0) = m ((c.tc : Thread Cert.MatmulIdeal.nD Cert.MatmulIdeal.τ).loc Cert.MatmulIdeal.main_arg0)
      ∧ m' ((c.tc : Thread Cert.MatmulRefIdeal.nD Cert.MatmulRefIdeal.τ).loc Cert.MatmulRefIdeal.main_arg1) = m ((c.tc : Thread Cert.MatmulIdeal.nD Cert.MatmulIdeal.τ).loc Cert.MatmulIdeal.main_arg1)
      ∧ m' ((c.tc : Thread Cert.MatmulRefIdeal.nD Cert.MatmulRefIdeal.τ).loc Cert.MatmulRefIdeal.main_arg2) = m ((c.tc : Thread Cert.MatmulIdeal.nD Cert.MatmulIdeal.τ).loc Cert.MatmulIdeal.main_arg2)
      ∧ m' ((c.tc : Thread Cert.MatmulRefIdeal.nD Cert.MatmulRefIdeal.τ).loc Cert.MatmulRefIdeal.main_arg3) = m ((c.tc : Thread Cert.MatmulIdeal.nD Cert.MatmulIdeal.τ).loc Cert.MatmulIdeal.main_arg3)) →
    ∃ (v0 : (c : Dev Cert.MatmulIdeal.nD) → Buf (Elt Ideal) ((c.tc : Thread Cert.MatmulIdeal.nD Cert.MatmulIdeal.τ).loc Cert.MatmulIdeal.main_v2)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v2) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
          ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
          ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ θ_run (Cert.MatmulRefIdeal.defs (F := Ideal)) (onTc (τ := Cert.MatmulRefIdeal.τ) (Cert.MatmulRefIdeal.main (F := Ideal))) ⟨m', fun _ => 0, g'⟩ (fun r => ∀ c : Dev Cert.MatmulRefIdeal.nD,
          r.2.mem ((c.tc : Thread Cert.MatmulRefIdeal.nD Cert.MatmulRefIdeal.τ).loc Cert.MatmulRefIdeal.main_v0) = v0 c
          ∧ r.2.mem ((c.tc : Thread Cert.MatmulRefIdeal.nD Cert.MatmulRefIdeal.τ).loc Cert.MatmulRefIdeal.main_arg0) = m' ((c.tc : Thread Cert.MatmulRefIdeal.nD Cert.MatmulRefIdeal.τ).loc Cert.MatmulRefIdeal.main_arg0)
          ∧ r.2.mem ((c.tc : Thread Cert.MatmulRefIdeal.nD Cert.MatmulRefIdeal.τ).loc Cert.MatmulRefIdeal.main_arg1) = m' ((c.tc : Thread Cert.MatmulRefIdeal.nD Cert.MatmulRefIdeal.τ).loc Cert.MatmulRefIdeal.main_arg1)
          ∧ r.2.mem ((c.tc : Thread Cert.MatmulRefIdeal.nD Cert.MatmulRefIdeal.τ).loc Cert.MatmulRefIdeal.main_arg2) = m' ((c.tc : Thread Cert.MatmulRefIdeal.nD Cert.MatmulRefIdeal.τ).loc Cert.MatmulRefIdeal.main_arg2)
          ∧ r.2.mem ((c.tc : Thread Cert.MatmulRefIdeal.nD Cert.MatmulRefIdeal.τ).loc Cert.MatmulRefIdeal.main_arg3) = m' ((c.tc : Thread Cert.MatmulRefIdeal.nD Cert.MatmulRefIdeal.τ).loc Cert.MatmulRefIdeal.main_arg3))

def Claim : Prop :=
  ∃ (hWhole : Cert.Whole.Facts) (hQuant : Cert.Quant.Facts) (hQuantRef : Cert.QuantRef.Facts) (hMatmul : Cert.Matmul.Facts) (hMatmulIdeal : Cert.MatmulIdeal.Facts) (hMatmulRefIdeal : Cert.MatmulRefIdeal.Facts),
    quiescent_Whole (hWhole := hWhole)
    ∧ quiescent_Quant (hQuant := hQuant)
    ∧ quiescent_QuantRef (hQuantRef := hQuantRef)
    ∧ quiescent_Matmul (hMatmul := hMatmul)
    ∧ quiescent_MatmulIdeal (hMatmulIdeal := hMatmulIdeal)
    ∧ quiescent_MatmulRefIdeal (hMatmulRefIdeal := hMatmulRefIdeal)
    ∧ bitexact_Quant_QuantRef (hQuant := hQuant) (hQuantRef := hQuantRef)
    ∧ preserves_Matmul_MatmulIdeal
    ∧ algebraic_MatmulIdeal_MatmulRefIdeal (hMatmulIdeal := hMatmulIdeal) (hMatmulRefIdeal := hMatmulRefIdeal)
-- ==== Whole.lean ====
abbrev S3x768x4096 : Shape := ⟨3, ![3, 768, 4096]⟩
abbrev S4096x22016 : Shape := ⟨2, ![4096, 22016]⟩
abbrev S32x172 : Shape := ⟨2, ![32, 172]⟩
abbrev S2304x4096 : Shape := ⟨2, ![2304, 4096]⟩
abbrev S2304x32 : Shape := ⟨2, ![2304, 32]⟩
abbrev S256x4096 : Shape := ⟨2, ![256, 4096]⟩
abbrev S256x32 : Shape := ⟨2, ![256, 32]⟩
abbrev S256x128 : Shape := ⟨2, ![256, 128]⟩
abbrev S256 : Shape := ⟨1, ![256]⟩
abbrev S256x1 : Shape := ⟨2, ![256, 1]⟩
abbrev S32x172x128 : Shape := ⟨3, ![32, 172, 128]⟩
abbrev S32x22016 : Shape := ⟨2, ![32, 22016]⟩
abbrev S2304x22016 : Shape := ⟨2, ![2304, 22016]⟩
abbrev S768x4096 : Shape := ⟨2, ![768, 4096]⟩
abbrev S768x32 : Shape := ⟨2, ![768, 32]⟩
abbrev S4096x256 : Shape := ⟨2, ![4096, 256]⟩
abbrev S32x256 : Shape := ⟨2, ![32, 256]⟩
abbrev S768x256 : Shape := ⟨2, ![768, 256]⟩
abbrev S128x256 : Shape := ⟨2, ![128, 256]⟩
abbrev S128x128 : Shape := ⟨2, ![128, 128]⟩
abbrev S128x1 : Shape := ⟨2, ![128, 1]⟩
abbrev S1x256 : Shape := ⟨2, ![1, 256]⟩
abbrev S3x768x22016 : Shape := ⟨3, ![3, 768, 22016]⟩
abbrev S3x768x32 : Shape := ⟨3, ![3, 768, 32]⟩

abbrev nBuf : Space → Nat
  | .hbm => 12
  | .vmem => 16
  | .smem => 0
  | _ => 0

abbrev bufTy : (tb : Table) → Fin (tcTables nBuf tb) → BufTy
  | .hbm, ⟨0, _⟩ => ⟨S3x768x4096, .bf16⟩
  | .hbm, ⟨1, _⟩ => ⟨S4096x22016, .fp8e4m3⟩
  | .hbm, ⟨2, _⟩ => ⟨S32x172, .f32⟩
  | .hbm, ⟨3, _⟩ => ⟨S2304x4096, .bf16⟩
  | .hbm, ⟨4, _⟩ => ⟨S2304x4096, .fp8e4m3⟩
  | .hbm, ⟨5, _⟩ => ⟨S2304x32, .f32⟩
  | .hbm, ⟨6, _⟩ => ⟨S32x172x128, .f32⟩
  | .hbm, ⟨7, _⟩ => ⟨S32x22016, .f32⟩
  | .hbm, ⟨8, _⟩ => ⟨S2304x22016, .bf16⟩
  | .hbm, ⟨9, _⟩ => ⟨S3x768x22016, .bf16⟩
  | .hbm, ⟨10, _⟩ => ⟨S3x768x4096, .fp8e4m3⟩
  | .hbm, ⟨11, _⟩ => ⟨S3x768x32, .f32⟩
  | .local _ .vmem, ⟨0, _⟩ => ⟨S256x4096, .bf16⟩
  | .local _ .vmem, ⟨1, _⟩ => ⟨S256x4096, .bf16⟩
  | .local _ .vmem, ⟨2, _⟩ => ⟨S256x4096, .fp8e4m3⟩
  | .local _ .vmem, ⟨3, _⟩ => ⟨S256x4096, .fp8e4m3⟩
  | .local _ .vmem, ⟨4, _⟩ => ⟨S256x32, .f32⟩
  | .local _ .vmem, ⟨5, _⟩ => ⟨S256x32, .f32⟩
  | .local _ .vmem, ⟨6, _⟩ => ⟨S768x4096, .fp8e4m3⟩
  | .local _ .vmem, ⟨7, _⟩ => ⟨S768x4096, .fp8e4m3⟩
  | .local _ .vmem, ⟨8, _⟩ => ⟨S768x32, .f32⟩
  | .local _ .vmem, ⟨9, _⟩ => ⟨S768x32, .f32⟩
  | .local _ .vmem, ⟨10, _⟩ => ⟨S4096x256, .fp8e4m3⟩
  | .local _ .vmem, ⟨11, _⟩ => ⟨S4096x256, .fp8e4m3⟩
  | .local _ .vmem, ⟨12, _⟩ => ⟨S32x256, .f32⟩
  | .local _ .vmem, ⟨13, _⟩ => ⟨S32x256, .f32⟩
  | .local _ .vmem, ⟨14, _⟩ => ⟨S768x256, .bf16⟩
  | .local _ .vmem, ⟨15, _⟩ => ⟨S768x256, .bf16⟩
  | _, _ => ⟨S3x768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [BitOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![3, 86], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S768x4096 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S768x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S768x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Quant.lean ====
abbrev S3x768x4096 : Shape := ⟨3, ![3, 768, 4096]⟩
abbrev S2304x4096 : Shape := ⟨2, ![2304, 4096]⟩
abbrev S2304x32 : Shape := ⟨2, ![2304, 32]⟩
abbrev S256x4096 : Shape := ⟨2, ![256, 4096]⟩
abbrev S256x32 : Shape := ⟨2, ![256, 32]⟩
abbrev S256x128 : Shape := ⟨2, ![256, 128]⟩
abbrev S256 : Shape := ⟨1, ![256]⟩
abbrev S256x1 : Shape := ⟨2, ![256, 1]⟩
abbrev S3x768x32 : Shape := ⟨3, ![3, 768, 32]⟩

abbrev nBuf : Space → Nat
  | .hbm => 6
  | .vmem => 6
  | .smem => 0
  | _ => 0

abbrev bufTy : (tb : Table) → Fin (tcTables nBuf tb) → BufTy
  | .hbm, ⟨0, _⟩ => ⟨S3x768x4096, .bf16⟩
  | .hbm, ⟨1, _⟩ => ⟨S2304x4096, .bf16⟩
  | .hbm, ⟨2, _⟩ => ⟨S2304x4096, .fp8e4m3⟩
  | .hbm, ⟨3, _⟩ => ⟨S2304x32, .f32⟩
  | .hbm, ⟨4, _⟩ => ⟨S3x768x4096, .fp8e4m3⟩
  | .hbm, ⟨5, _⟩ => ⟨S3x768x32, .f32⟩
  | .local _ .vmem, ⟨0, _⟩ => ⟨S256x4096, .bf16⟩
  | .local _ .vmem, ⟨1, _⟩ => ⟨S256x4096, .bf16⟩
  | .local _ .vmem, ⟨2, _⟩ => ⟨S256x4096, .fp8e4m3⟩
  | .local _ .vmem, ⟨3, _⟩ => ⟨S256x4096, .fp8e4m3⟩
  | .local _ .vmem, ⟨4, _⟩ => ⟨S256x32, .f32⟩
  | .local _ .vmem, ⟨5, _⟩ => ⟨S256x32, .f32⟩
  | _, _ => ⟨S3x768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRef.lean ====
abbrev S3x768x4096 : Shape := ⟨3, ![3, 768, 4096]⟩
abbrev S3x768x32 : Shape := ⟨3, ![3, 768, 32]⟩
abbrev S3x768x32x128 : Shape := ⟨4, ![3, 768, 32, 128]⟩
abbrev S3x768x32x1 : Shape := ⟨4, ![3, 768, 32, 1]⟩

abbrev nBuf : Space → Nat
  | .hbm => 3
  | .vmem => 3
  | .smem => 0
  | _ => 0

abbrev bufTy : (tb : Table) → Fin (tcTables nBuf tb) → BufTy
  | .hbm, ⟨0, _⟩ => ⟨S3x768x4096, .bf16⟩
  | .hbm, ⟨1, _⟩ => ⟨S3x768x4096, .fp8e4m3⟩
  | .hbm, ⟨2, _⟩ => ⟨S3x768x32, .f32⟩
  | .local _ .vmem, ⟨0, _⟩ => ⟨S3x768x4096, .bf16⟩
  | .local _ .vmem, ⟨1, _⟩ => ⟨S3x768x4096, .fp8e4m3⟩
  | .local _ .vmem, ⟨2, _⟩ => ⟨S3x768x32, .f32⟩
  | _, _ => ⟨S3x768x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S3x768x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x768x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x768x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Matmul.lean ====
abbrev S2304x4096 : Shape := ⟨2, ![2304, 4096]⟩
abbrev S2304x32 : Shape := ⟨2, ![2304, 32]⟩
abbrev S4096x22016 : Shape := ⟨2, ![4096, 22016]⟩
abbrev S32x172 : Shape := ⟨2, ![32, 172]⟩
abbrev S32x172x128 : Shape := ⟨3, ![32, 172, 128]⟩
abbrev S32x22016 : Shape := ⟨2, ![32, 22016]⟩
abbrev S2304x22016 : Shape := ⟨2, ![2304, 22016]⟩
abbrev S768x4096 : Shape := ⟨2, ![768, 4096]⟩
abbrev S768x32 : Shape := ⟨2, ![768, 32]⟩
abbrev S4096x256 : Shape := ⟨2, ![4096, 256]⟩
abbrev S32x256 : Shape := ⟨2, ![32, 256]⟩
abbrev S768x256 : Shape := ⟨2, ![768, 256]⟩
abbrev S128x256 : Shape := ⟨2, ![128, 256]⟩
abbrev S128x128 : Shape := ⟨2, ![128, 128]⟩
abbrev S128x1 : Shape := ⟨2, ![128, 1]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S2304x4096, .fp8e4m3⟩
  | .hbm, ⟨1, _⟩ => ⟨S2304x32, .f32⟩
  | .hbm, ⟨2, _⟩ => ⟨S4096x22016, .fp8e4m3⟩
  | .hbm, ⟨3, _⟩ => ⟨S32x172, .f32⟩
  | .hbm, ⟨4, _⟩ => ⟨S32x172x128, .f32⟩
  | .hbm, ⟨5, _⟩ => ⟨S32x22016, .f32⟩
  | .hbm, ⟨6, _⟩ => ⟨S2304x22016, .bf16⟩
  | .local _ .vmem, ⟨0, _⟩ => ⟨S768x4096, .fp8e4m3⟩
  | .local _ .vmem, ⟨1, _⟩ => ⟨S768x4096, .fp8e4m3⟩
  | .local _ .vmem, ⟨2, _⟩ => ⟨S768x32, .f32⟩
  | .local _ .vmem, ⟨3, _⟩ => ⟨S768x32, .f32⟩
  | .local _ .vmem, ⟨4, _⟩ => ⟨S4096x256, .fp8e4m3⟩
  | .local _ .vmem, ⟨5, _⟩ => ⟨S4096x256, .fp8e4m3⟩
  | .local _ .vmem, ⟨6, _⟩ => ⟨S32x256, .f32⟩
  | .local _ .vmem, ⟨7, _⟩ => ⟨S32x256, .f32⟩
  | .local _ .vmem, ⟨8, _⟩ => ⟨S768x256, .bf16⟩
  | .local _ .vmem, ⟨9, _⟩ => ⟨S768x256, .bf16⟩
  | _, _ => ⟨S2304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MatmulRefIdeal.lean ====
abbrev S2304x4096 : Shape := ⟨2, ![2304, 4096]⟩
abbrev S2304x32 : Shape := ⟨2, ![2304, 32]⟩
abbrev S4096x22016 : Shape := ⟨2, ![4096, 22016]⟩
abbrev S32x172 : Shape := ⟨2, ![32, 172]⟩
abbrev S2304x22016 : Shape := ⟨2, ![2304, 22016]⟩
abbrev S2304x32x128 : Shape := ⟨3, ![2304, 32, 128]⟩
abbrev S32x128x22016 : Shape := ⟨3, ![32, 128, 22016]⟩
abbrev S32x2304x22016 : Shape := ⟨3, ![32, 2304, 22016]⟩
abbrev S32x2304x172x128 : Shape := ⟨4, ![32, 2304, 172, 128]⟩
abbrev S32x2304 : Shape := ⟨2, ![32, 2304]⟩
abbrev S32x2304x1x1 : Shape := ⟨4, ![32, 2304, 1, 1]⟩
abbrev S32x1x172x1 : Shape := ⟨4, ![32, 1, 172, 1]⟩
abbrev S2304x172x128 : Shape := ⟨3, ![2304, 172, 128]⟩

abbrev nBuf : Space → Nat
  | .hbm => 5
  | .vmem => 5
  | .smem => 0
  | _ => 0

abbrev bufTy : (tb : Table) → Fin (tcTables nBuf tb) → BufTy
  | .hbm, ⟨0, _⟩ => ⟨S2304x4096, .fp8e4m3⟩
  | .hbm, ⟨1, _⟩ => ⟨S2304x32, .f32⟩
  | .hbm, ⟨2, _⟩ => ⟨S4096x22016, .fp8e4m3⟩
  | .hbm, ⟨3, _⟩ => ⟨S32x172, .f32⟩
  | .hbm, ⟨4, _⟩ => ⟨S2304x22016, .bf16⟩
  | .local _ .vmem, ⟨0, _⟩ => ⟨S2304x4096, .fp8e4m3⟩
  | .local _ .vmem, ⟨1, _⟩ => ⟨S2304x32, .f32⟩
  | .local _ .vmem, ⟨2, _⟩ => ⟨S4096x22016, .fp8e4m3⟩
  | .local _ .vmem, ⟨3, _⟩ => ⟨S32x172, .f32⟩
  | .local _ .vmem, ⟨4, _⟩ => ⟨S2304x22016, .bf16⟩
  | _, _ => ⟨S2304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2304x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x22016 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x172 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x22016 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Matmul.Step.lean ====
/- One step of the blocked product: what the kernel adds to its accumulator for one group of 128 contracted columns. -/
module

public import proofs.«01_k».proof.Proof.Gen.MatmulIdeal.Frame
public import Idealize.ShloMosaic.Lib.Pointwise.Tactic
public import Idealize.ShloMosaic.Lib.Pointwise.Contract
public import Idealize.ShloMosaic.Lib.Pointwise.Reshape
public import Idealize.ShloMosaic.Lib.Pipeline.Value
public import Idealize.ShloMosaic.Lib.Pipeline.ValueKit.Tiles

@[expose] public section

set_option maxRecDepth 16384

noncomputable section

namespace Cert.Proof.Matmul

open Cert.MatmulIdeal Cert.MatmulIdeal.Gen Idealize.ShloMosaic Idealize.ShloMosaic.TcCoe Idealize.SL.Sem
open scoped BigOperators

/-- A two-dimensional array of extended reals read at natural-number coordinates (zero outside the array). -/
def rd {n0 n1 : ℕ} (x : (⟨2, ![n0, n1]⟩ : Shape).Idx → EReal) (a b : ℕ) : EReal :=
  if h : a < n0 ∧ b < n1 then x (ix2 ⟨a, h.1⟩ ⟨b, h.2⟩) else 0

/-- Reading at the coordinates of an index is reading at the index. -/
theorem rd_of {n0 n1 : ℕ} (x : (⟨2, ![n0, n1]⟩ : Shape).Idx → EReal) (i : (⟨2, ![n0, n1]⟩ : Shape).Idx) {a b : ℕ}
    (ha : (i 0).val = a) (hb : (i 1).val = b) : x i = rd x a b := by
  subst ha hb
  unfold rd
  rw [dif_pos ⟨(i 0).isLt, (i 1).isLt⟩]
  exact congrArg x (eq_ix2 i)

/-- The scaled product of one group: row `r` and column `c`, with contracted columns `o … o + 127`, scaled by the row's and
    the column's scale of group `g`. -/
def term {a0 a1 b1 s1 t0 t1 : ℕ} (x : (⟨2, ![a0, a1]⟩ : Shape).Idx → EReal) (s : (⟨2, ![a0, s1]⟩ : Shape).Idx → EReal)
    (w : (⟨2, ![a1, b1]⟩ : Shape).Idx → EReal) (ws : (⟨2, ![t0, t1]⟩ : Shape).Idx → EReal) (r o g c c' : ℕ) : EReal :=
  (∑ k : Fin 128, rd x r (o + k.val) * rd w (o + k.val) c) * rd s r g * rd ws g c'

/-- The 128 × 128 by 128 × 256 product onto zero, at an index. -/
theorem matmul_at (a : FVec Ideal S128x128 .fp8e4m3) (w : FVec Ideal S128x256 .fp8e4m3) (y : S128x256.Idx) :
    matmul dot_S128x128_S128x256_S128x256_1_0_0_1_n_n none a w (constant S128x256 .f32 0x00000000#32) y
      = ∑ k : Fin 128, a (ix2 (y 0) k) * w (ix2 k (y 1)) := by
  refine (Ideal.matmul_apply₁_of dot_S128x128_S128x256_S128x256_1_0_0_1_n_n (a := 1) rfl (K := 128) rfl a w _ y
    (fun k => ix2 (y 0) k) (fun k => ix2 k (y 1)) (fun k => ?_) (fun k => ?_)).trans ?_
  · funext i; apply Fin.ext
    match i with
    | ⟨0, _⟩ => rfl
    | ⟨1, _⟩ => rfl
  · funext i; apply Fin.ext
    match i with
    | ⟨0, _⟩ => rfl
    | ⟨1, _⟩ => rfl
  · rw [show (constant (F := Ideal) S128x256 .f32 0x00000000#32 : FVec Ideal S128x256 .f32) y = 0 from by
      show Ideal.ofBits .f32 0x00000000#32 = 0
      simp [Ideal.ofBits, Ideal.ieee]]
    exact zero_add _

/-- What the kernel adds for one group: the accumulator plus the group's product, scaled by the rows' scales `s` and by the
    columns' scales `ws`. -/
def step {F : FTy → Type} [FloatOps F] (acc : FVec F S128x256 .f32) (a : FVec F S128x128 .fp8e4m3) (w : FVec F S128x256 .fp8e4m3)
    (s : FVec F S128x1 .f32) (ws : FVec F S1x256 .f32) : FVec F S128x256 .f32 :=
  addf acc (mulf (mulf (matmul dot_S128x128_S128x256_S128x256_1_0_0_1_n_n none a w (constant S128x256 .f32 0x00000000#32))
    (broadcastTo S128x256 s broadcasts_S128x1_S128x256))
    (broadcastTo S128x256 (shapeCast S1x256 ws shapeCasts_S1x256_S1x256) broadcasts_S1x256_S128x256))

/-- One step at an index, over the extended reals. -/
theorem step_at (acc : FVec Ideal S128x256 .f32) (a : FVec Ideal S128x128 .fp8e4m3) (w : FVec Ideal S128x256 .fp8e4m3)
    (s : FVec Ideal S128x1 .f32) (ws : FVec Ideal S1x256 .f32) (y : S128x256.Idx) :
    step acc a w s ws y
      = acc y + (∑ k : Fin 128, a (ix2 (y 0) k) * w (ix2 k (y 1))) * s (ix2 (y 0) 0) * ws (ix2 0 (y 1)) := by
  unfold step
  rw [shapeCast_self]
  pointwise

/-- The accumulator of the 128 rows from row `ro` on, after `n` groups: the steps over the pieces of the staged blocks — codes
    `x0`, row scales `x1`, weights `x2`, column scales `x3`. -/
def accum {F : FTy → Type} [FloatOps F] (x0 : FVec F S768x4096 .fp8e4m3) (x1 : FVec F S768x32 .f32)
    (x2 : FVec F S4096x256 .fp8e4m3) (x3 : FVec F S32x256 .f32) (ro : ℕ) (hr : ro + 128 ≤ 768) :
    (n : ℕ) → n ≤ 32 → FVec F S128x256 .f32
  | 0, _ => broadcast S128x256 (Scalar.ofBits .f32 0x00000000#32)
  | n + 1, hn => step (accum x0 x1 x2 x3 ro hr n (Nat.le_of_succ_le hn))
      (View.ld (Val := Elt F) (e' := .fp8e4m3) x0 (Rect.unit (s := S768x4096) ![ro, 128 * n] S128x128.size (by
        intro a; match a with
        | ⟨0, _⟩ => exact hr
        | ⟨1, _⟩ => show 128 * n + 128 ≤ 4096; omega)))
      (View.ld (Val := Elt F) (e' := .fp8e4m3) x2 (Rect.unit (s := S4096x256) ![128 * n, 0] S128x256.size (by
        intro a; match a with
        | ⟨0, _⟩ => show 128 * n + 128 ≤ 4096; omega
        | ⟨1, _⟩ => exact le_refl 256)))
      (View.ld (Val := Elt F) (e' := .f32) x1 (Rect.unit (s := S768x32) ![ro, n] S128x1.size (by
        intro a; match a with
        | ⟨0, _⟩ => exact hr
        | ⟨1, _⟩ => exact hn)))
      (View.ld (Val := Elt F) (e' := .f32) x3 (Rect.unit (s := S32x256) ![n, 0] S1x256.size (by
        intro a; match a with
        | ⟨0, _⟩ => exact hn
        | ⟨1, _⟩ => exact le_refl 256)))

/-- The accumulator after `n` groups at an index: the sum of the first `n` groups' scaled products. -/
theorem accum_at (x0 : FVec Ideal S768x4096 .fp8e4m3) (x1 : FVec Ideal S768x32 .f32) (x2 : FVec Ideal S4096x256 .fp8e4m3)
    (x3 : FVec Ideal S32x256 .f32) (ro : ℕ) (hr : ro + 128 ≤ 768) (n : ℕ) (hn : n ≤ 32) (y : S128x256.Idx) :
    accum x0 x1 x2 x3 ro hr n hn y
      = ∑ g ∈ Finset.range n, term x0 x1 x2 x3 (ro + (y 0).val) (128 * g) g (y 1).val (y 1).val := by
  induction n with
  | zero =>
    show Ideal.ofBits .f32 0x00000000#32 = _
    simp [Ideal.ofBits, Ideal.ieee]
  | succ n ih =>
    rw [accum, step_at, ih, Finset.sum_range_succ]
    unfold term
    refine congrArg₂ (· + ·) rfl (congrArg₂ (· * ·) (congrArg₂ (· * ·) (Finset.sum_congr rfl fun k _ =>
      congrArg₂ (· * ·) ?_ ?_) ?_) ?_)
    · exact rd_of x0 _ (by simp) (by simp)
    · exact rd_of x2 _ (by simp) (by simp)
    · exact rd_of x1 _ (by simp) (by simp)
    · exact rd_of x3 _ (by simp) (by simp)

end Cert.Proof.Matmul
-- ==== Proof.Matmul.Block.lean ====
/- What one grid point writes: each element of the 768 × 256 output block is the sum of its 32 groups' scaled products. -/
module

public import proofs.«01_k».proof.Proof.Matmul.Step

@[expose] public section

set_option maxRecDepth 16384

noncomputable section

namespace Cert.Proof.Matmul

open Cert.MatmulIdeal Cert.MatmulIdeal.Gen Idealize.ShloMosaic Idealize.ShloMosaic.TcCoe Idealize.SL.Sem
open scoped BigOperators

/-- The value stored for the 128 rows from row `ro` on: the accumulator after all 32 groups, cast to bf16. -/
def piece {F : FTy → Type} [FloatOps F] (x0 : FVec F S768x4096 .fp8e4m3) (x1 : FVec F S768x32 .f32)
    (x2 : FVec F S4096x256 .fp8e4m3) (x3 : FVec F S32x256 .f32) (ro : ℕ) (hr : ro + 128 ≤ 768) : FVec F S128x256 .bf16 :=
  truncf .bf16 (accum x0 x1 x2 x3 ro hr 32 (le_refl 32)) (by decide)

/-- The block a grid point computes is the six stored pieces, 128 rows each. -/
theorem out_eq {F : FTy → Type} [FloatOps F] (x0 : FVec F S768x4096 .fp8e4m3) (x1 : FVec F S768x32 .f32)
    (x2 : FVec F S4096x256 .fp8e4m3) (x3 : FVec F S32x256 .f32) :
    out0_4 x0 x1 x2 x3 = View.canon (Val := Elt F) (e := .bf16) [⟨r0_453, piece x0 x1 x2 x3 640 (by decide)⟩, ⟨r0_388, piece x0 x1 x2 x3 512 (by decide)⟩,
      ⟨r0_323, piece x0 x1 x2 x3 384 (by decide)⟩, ⟨r0_258, piece x0 x1 x2 x3 256 (by decide)⟩,
      ⟨r0_193, piece x0 x1 x2 x3 128 (by decide)⟩, ⟨r0_128, piece x0 x1 x2 x3 0 (by decide)⟩] := by
  rfl

/-- The group sum at row `r` of the codes and their scales, column `c` of the weights and column `c'` of their scales. -/
def total {a0 a1 b1 s1 t0 t1 : ℕ} (x : (⟨2, ![a0, a1]⟩ : Shape).Idx → EReal) (s : (⟨2, ![a0, s1]⟩ : Shape).Idx → EReal)
    (w : (⟨2, ![a1, b1]⟩ : Shape).Idx → EReal) (ws : (⟨2, ![t0, t1]⟩ : Shape).Idx → EReal) (r c c' : ℕ) : EReal :=
  ∑ g ∈ Finset.range 32, term x s w ws r (128 * g) g c c'

/-- A stored piece at an index is the group sum of its row and column. -/
theorem piece_at (x0 : FVec Ideal S768x4096 .fp8e4m3) (x1 : FVec Ideal S768x32 .f32) (x2 : FVec Ideal S4096x256 .fp8e4m3)
    (x3 : FVec Ideal S32x256 .f32) (ro : ℕ) (hr : ro + 128 ≤ 768) (y : S128x256.Idx) :
    piece x0 x1 x2 x3 ro hr y = total x0 x1 x2 x3 (ro + (y 0).val) (y 1).val (y 1).val :=
  accum_at x0 x1 x2 x3 ro hr 32 (le_refl 32) y

/-- The group sums of a grid point's staged blocks, as its output block. -/
def blockOf (x0 : FVec Ideal S768x4096 .fp8e4m3) (x1 : FVec Ideal S768x32 .f32) (x2 : FVec Ideal S4096x256 .fp8e4m3)
    (x3 : FVec Ideal S32x256 .f32) : FVec Ideal S768x256 .bf16 :=
  fun y => total x0 x1 x2 x3 (y 0).val (y 1).val (y 1).val

/-- What a grid point writes, at an index of its block: the group sum of the staged blocks. -/
theorem out_at (x0 : FVec Ideal S768x4096 .fp8e4m3) (x1 : FVec Ideal S768x32 .f32) (x2 : FVec Ideal S4096x256 .fp8e4m3)
    (x3 : FVec Ideal S32x256 .f32) (y : S768x256.Idx) :
    out0_4 (F := Ideal) x0 x1 x2 x3 y = blockOf x0 x1 x2 x3 y := by
  rw [out_eq]
  refine View.canon_apply_of_pieces (Val := Elt Ideal) (e := .bf16)
    (blockOf x0 x1 x2 x3) _ ?_ y (cover0_4 _ _ _ _ _ _ y)
  intro p hp x
  have key : ∀ (ro : ℕ) (hr : ro + 128 ≤ 768) (hi) (x : S128x256.Idx), piece x0 x1 x2 x3 ro hr x
      = blockOf x0 x1 x2 x3 ((Rect.unit (s := S768x256) ![ro, 0] S128x256.size hi).emb x) := by
    intro ro hr hi x
    rw [piece_at]
    show _ = total x0 x1 x2 x3 (ro + 1 * (x 0).val) (0 + 1 * (x 1).val) (0 + 1 * (x 1).val)
    rw [Nat.one_mul, Nat.one_mul, Nat.zero_add]
  simp only [List.mem_cons, List.not_mem_nil, or_false] at hp
  rcases hp with rfl | rfl | rfl | rfl | rfl | rfl
  · exact key 640 (by decide) inb_S768x256_S128x256_640_0 x
  · exact key 512 (by decide) inb_S768x256_S128x256_512_0 x
  · exact key 384 (by decide) inb_S768x256_S128x256_384_0 x
  · exact key 256 (by decide) inb_S768x256_S128x256_256_0 x
  · exact key 128 (by decide) inb_S768x256_S128x256_128_0 x
  · exact key 0 (by decide) inb_S768x256_S128x256_0_0 x

end Cert.Proof.Matmul
-- ==== Proof.Matmul.Array.lean ====
/- What the result array of the blocked product holds after the run: at row `r` and column `c`, the sum over the 32 groups of the
   group's product of codes and weights, scaled by the row's scale and by the scale of the 128-column block of `c`. -/
module

public import proofs.«01_k».proof.Proof.Matmul.Block
public import proofs.«01_k».proof.Proof.Gen.MatmulIdeal.Value

@[expose] public section

set_option maxRecDepth 16384

noncomputable section

namespace Cert.Proof.Matmul

open Cert.MatmulIdeal Cert.MatmulIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The result as ONE function of the codes `x`, their scales `s`, the weights `w` and their scales `ws`. -/
def product (x : S2304x4096.Idx → EReal) (s : S2304x32.Idx → EReal) (w : S4096x22016.Idx → EReal) (ws : S32x172.Idx → EReal) :
    S2304x22016.Idx → EReal :=
  fun i => total x s w ws (i 0).val (i 1).val ((i 1).val / 128)

/-- The product of device `c`'s argument arrays. -/
abbrev G (c : Dev nD) : Buf (Elt Ideal) ((c : Thread nD τ).loc main_v2) :=
  product (m ((c : Thread nD τ).loc main_arg0)) (m ((c : Thread nD τ).loc main_arg1)) (m ((c : Thread nD τ).loc main_arg2))
    (m ((c : Thread nD τ).loc main_arg3))

/-- The block offsets of the five windows at grid point `t`: row block `t / 86`, column block `t % 86`. -/
theorem offsets (t : Fin cfg0.N) :
    (win0_0.index t 0 * win0_0.size 0 = 768 * (t.val / 86) ∧ win0_0.index t 1 * win0_0.size 1 = 0)
    ∧ (win0_1.index t 0 * win0_1.size 0 = 768 * (t.val / 86) ∧ win0_1.index t 1 * win0_1.size 1 = 0)
    ∧ (win0_2.index t 0 * win0_2.size 0 = 0 ∧ win0_2.index t 1 * win0_2.size 1 = 256 * (t.val % 86))
    ∧ (win0_3.index t 0 * win0_3.size 0 = 0 ∧ win0_3.index t 1 * win0_3.size 1 = 256 * (t.val % 86))
    ∧ (win0_4.index t 0 * win0_4.size 0 = 768 * (t.val / 86) ∧ win0_4.index t 1 * win0_4.size 1 = 256 * (t.val % 86)) := by
  revert t; decide +kernel

/-- No block of the result is cut. -/
theorem sizes (t : Fin cfg0.N) : win0_4.xsize (grid0.coords t) 0 = 768 ∧ win0_4.xsize (grid0.coords t) 1 = 256 := by
  revert t; decide +kernel

/-- The column scales the kernel reads are the host's repetition of the weight scales: column `n` has the scale of block
    `n / 128`. -/
theorem row_scales (c : Dev nD) (g n : ℕ) (hg : g < 32) (hn : n < 22016) :
    rd (n0 := 32) (n1 := 22016) (V m c main_v1) g n
      = rd (n0 := 32) (n1 := 172) (m ((c : Thread nD τ).loc main_arg3)) g (n / 128) := by
  have e : V m c main_v1 = shapeCast S32x22016 (broadcastInDim S32x172x128 ![0, 1] bcast_S32x172_S32x172x128_0_1
      (m ((c : Thread nD τ).loc main_arg3) : S32x172.Idx → EReal)) shapeCasts_S32x172x128_S32x22016 := by
    unfold_abbrev_sides
    after_results
    rfl
  have hd : n / 128 < 172 := by omega
  rw [e, rd, dif_pos ⟨hg, hn⟩, rd, dif_pos ⟨hg, hd⟩]
  pointwise

/-- An index of the result array is in point `t`'s block exactly when its row and column are in the block's ranges. -/
theorem mem_blk (t : Fin cfg0.N) (i : S2304x22016.Idx) :
    i ∈ ((cfg0.win 4).blk t).view.set ↔ (768 * (t.val / 86) ≤ (i 0).val ∧ (i 0).val < 768 * (t.val / 86) + 768)
      ∧ (256 * (t.val % 86) ≤ (i 1).val ∧ (i 1).val < 256 * (t.val % 86) + 256) := by
  show i ∈ ((View.whole main_v2).slice (win0_4.rect t)).set ↔ _
  rw [View.set_slice_whole, Rect.mem_set_unit]
  obtain ⟨-, -, -, -, e0, e1⟩ := offsets t
  obtain ⟨s0, s1⟩ := sizes t
  refine ⟨fun h => ?_, fun h a => ?_⟩
  · have h0 : win0_4.index t 0 * win0_4.size 0 ≤ (i 0).val ∧ (i 0).val < win0_4.index t 0 * win0_4.size 0 + win0_4.xsize (grid0.coords t) 0 := h 0
    have h1 : win0_4.index t 1 * win0_4.size 1 ≤ (i 1).val ∧ (i 1).val < win0_4.index t 1 * win0_4.size 1 + win0_4.xsize (grid0.coords t) 1 := h 1
    rw [e0, s0] at h0; rw [e1, s1] at h1
    exact ⟨h0, h1⟩
  · match a with
    | ⟨0, _⟩ => show win0_4.index t 0 * win0_4.size 0 ≤ (i 0).val ∧ (i 0).val < win0_4.index t 0 * win0_4.size 0 + win0_4.xsize (grid0.coords t) 0
                rw [e0, s0]; exact h.1
    | ⟨1, _⟩ => show win0_4.index t 1 * win0_4.size 1 ≤ (i 1).val ∧ (i 1).val < win0_4.index t 1 * win0_4.size 1 + win0_4.xsize (grid0.coords t) 1
                rw [e1, s1]; exact h.2

/-- The blocks cover the result array. -/
theorem cover (i : S2304x22016.Idx) : ∃ t : Fin cfg0.N, (cfg0.win 4).flush t = true ∧ i ∈ ((cfg0.win 4).blk t).view.set := by
  have h0 : (i 0).val < 2304 := (i 0).isLt
  have h1 : (i 1).val < 22016 := (i 1).isLt
  have hN : cfg0.N = 258 := N_0
  refine ⟨⟨(i 0).val / 768 * 86 + (i 1).val / 256, by omega⟩, flush0_4 _, ?_⟩
  rw [mem_blk]
  dsimp only
  omega

/-- What point `t` writes back is block `t` of the product. -/
theorem flushed_eq (c : Dev nD) (t : Fin cfg0.N) :
    (dats m 0 c).flushed 4 t = ((cfg0.win 4).blk t).view.read (Elt Ideal) (G m c) := by
  rw [Value.flushed4]
  funext y
  obtain ⟨⟨a0, a1⟩, ⟨b0, b1⟩, ⟨c0, c1⟩, ⟨d0, d1⟩, ⟨e0, e1⟩⟩ := offsets t
  have hy0 : (y 0).val < 768 := (y 0).isLt
  have hy1 : (y 1).val < 256 := (y 1).isLt
  have ht : t.val < 258 := lt_of_lt_of_eq t.isLt N_0
  have rx : ∀ r k, r < 768 → k < 4096 → rd (n0 := 768) (n1 := 4096) (iblk m c 0 t) r k
      = rd (n0 := 2304) (n1 := 4096) (m ((c : Thread nD τ).loc main_arg0)) (768 * (t.val / 86) + r) k := by
    intro r k hr hk
    rw [rd, dif_pos ⟨hr, hk⟩]
    show V m c main_arg0 ((win0_0.rect t).idx (ix2 ⟨r, hr⟩ ⟨k, hk⟩)) = _
    rw [V_main_arg0]
    exact rd_of _ _ (by show win0_0.index t 0 * win0_0.size 0 + 1 * r = _; omega)
      (by show win0_0.index t 1 * win0_0.size 1 + 1 * k = _; omega)
  have rs : ∀ r g, r < 768 → g < 32 → rd (n0 := 768) (n1 := 32) (iblk m c 1 t) r g
      = rd (n0 := 2304) (n1 := 32) (m ((c : Thread nD τ).loc main_arg1)) (768 * (t.val / 86) + r) g := by
    intro r k hr hk
    rw [rd, dif_pos ⟨hr, hk⟩]
    show V m c main_arg1 ((win0_1.rect t).idx (ix2 ⟨r, hr⟩ ⟨k, hk⟩)) = _
    rw [V_main_arg1]
    exact rd_of _ _ (by show win0_1.index t 0 * win0_1.size 0 + 1 * r = _; omega)
      (by show win0_1.index t 1 * win0_1.size 1 + 1 * k = _; omega)
  have rw' : ∀ k n, k < 4096 → n < 256 → rd (n0 := 4096) (n1 := 256) (iblk m c 2 t) k n
      = rd (n0 := 4096) (n1 := 22016) (m ((c : Thread nD τ).loc main_arg2)) k (256 * (t.val % 86) + n) := by
    intro r k hr hk
    rw [rd, dif_pos ⟨hr, hk⟩]
    show V m c main_arg2 ((win0_2.rect t).idx (ix2 ⟨r, hr⟩ ⟨k, hk⟩)) = _
    rw [V_main_arg2]
    exact rd_of _ _ (by show win0_2.index t 0 * win0_2.size 0 + 1 * r = _; omega)
      (by show win0_2.index t 1 * win0_2.size 1 + 1 * k = _; omega)
  have rws : ∀ g n, g < 32 → n < 256 → rd (n0 := 32) (n1 := 256) (iblk m c 3 t) g n
      = rd (n0 := 32) (n1 := 172) (m ((c : Thread nD τ).loc main_arg3)) g ((256 * (t.val % 86) + n) / 128) := by
    intro g n hg hn
    rw [← row_scales m c g _ hg (by omega), rd, dif_pos ⟨hg, hn⟩]
    show V m c main_v1 ((win0_3.rect t).idx (ix2 ⟨g, hg⟩ ⟨n, hn⟩)) = _
    exact rd_of _ _ (by show win0_3.index t 0 * win0_3.size 0 + 1 * g = _; omega)
      (by show win0_3.index t 1 * win0_3.size 1 + 1 * n = _; omega)
  refine (out_at (iblk m c 0 t) (iblk m c 1 t) (iblk m c 2 t) (iblk m c 3 t) y).trans ?_
  have i0 : (((win0_4.rect t).idx y) 0).val = 768 * (t.val / 86) + (y 0).val := by
    show win0_4.index t 0 * win0_4.size 0 + 1 * (y 0).val = _; omega
  have i1 : (((win0_4.rect t).idx y) 1).val = 256 * (t.val % 86) + (y 1).val := by
    show win0_4.index t 1 * win0_4.size 1 + 1 * (y 1).val = _; omega
  show total (a0 := 768) (a1 := 4096) (b1 := 256) (s1 := 32) (t0 := 32) (t1 := 256) (iblk m c 0 t) (iblk m c 1 t) (iblk m c 2 t) (iblk m c 3 t)
      (y 0).val (y 1).val (y 1).val
    = total (a0 := 2304) (a1 := 4096) (b1 := 22016) (s1 := 32) (t0 := 32) (t1 := 172) _ _ _ _ (((win0_4.rect t).idx y) 0).val (((win0_4.rect t).idx y) 1).val ((((win0_4.rect t).idx y) 1).val / 128)
  rw [i0, i1]
  unfold total
  refine Finset.sum_congr rfl fun g hg => ?_
  have hg' : g < 32 := Finset.mem_range.mp hg
  unfold term
  refine congrArg₂ (· * ·) (congrArg₂ (· * ·) (Finset.sum_congr rfl fun k _ => congrArg₂ (· * ·) ?_ ?_) ?_) ?_
  · exact rx _ _ hy0 (by have := k.isLt; omega)
  · exact rw' _ _ (by have := k.isLt; omega) hy1
  · exact rs _ _ hy0 hg'
  · exact rws _ _ hg' hy1

/-- After the run the result array holds the product. -/
theorem final (c : Dev nD) : (dats m 0 c).arrAt 4 cfg0.N = G m c :=
  (dats m 0 c).arrAt_eq_of_cover 4 (G m c) (fun t _ => flushed_eq m c t) cover

/-- Every run of the kernel ends with the product in the result array and the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks m ρ)

end Cert.Proof.Matmul
-- ==== Proof.Matmul.Ref.lean ====
/- The reference product, read at an index: the same sum of 32 scaled group products. -/
module

public import proofs.«01_k».proof.Proof.Matmul.Array
public import proofs.«01_k».proof.Proof.Gen.MatmulRefIdeal.Value
public import Idealize.ShloMosaic.Lib.Pointwise

@[expose] public section

set_option maxRecDepth 16384

noncomputable section

namespace Cert.Proof.MatmulRef

open Cert.MatmulRefIdeal Cert.MatmulRefIdeal.Gen Idealize.ShloMosaic Idealize.ShloMosaic.TcCoe Idealize.SL.Sem
open scoped BigOperators

/-- The reference's result at an index. -/
theorem pay_at (x : FVec Ideal S2304x4096 .fp8e4m3) (w : FVec Ideal S4096x22016 .fp8e4m3) (s : FVec Ideal S2304x32 .f32)
    (ws : FVec Ideal S32x172 .f32) (i : S2304x22016.Idx) :
    k0_pay1 (F := Ideal) x w s ws i = Matmul.product x s w ws i := by
  unfold_payloads
  pointwise [dot_S2304x32x128_S32x128x22016_S32x2304x22016_2_1_0_2_1_0]
  unfold Matmul.product Matmul.total Matmul.term
  rw [Finset.sum_range]
  refine Finset.sum_congr rfl fun g _ => congrArg₂ (· * ·) (congrArg₂ (· * ·) (Finset.sum_congr rfl fun k _ =>
    congrArg₂ (· * ·) ?_ ?_) ?_) ?_
  · exact Matmul.rd_of (n0 := 2304) (n1 := 4096) x _ rfl (by show g.val * 128 + k.val = _; rw [Nat.mul_comm])
  · exact Matmul.rd_of (n0 := 4096) (n1 := 22016) w _ (by show g.val * 128 + k.val = _; rw [Nat.mul_comm]) rfl
  · exact Matmul.rd_of (n0 := 2304) (n1 := 32) s _ rfl rfl
  · exact Matmul.rd_of (n0 := 32) (n1 := 172) ws _ rfl rfl

end Cert.Proof.MatmulRef
-- ==== Proof.Matmul.Claims.lean ====
/- The claims about the product kernel: the frames, the idealization, and the equation with the reference. -/
module

public import proofs.«01_k».proof.Defs
public import proofs.«01_k».proof.Proof.Gen.Matmul.Frame
public import proofs.«01_k».proof.Proof.Matmul.Ref

@[expose] public section

noncomputable section

namespace Cert.Proof.MatmulClaims

open Idealize.ShloMosaic Idealize.ShloMosaic.TcCoe Idealize.SL.Sem

/-- The reference's result array is the kernel's function of the same four arrays. -/
theorem reference_eq (x : FVec Ideal Cert.MatmulRefIdeal.S2304x4096 .fp8e4m3) (s : FVec Ideal Cert.MatmulRefIdeal.S2304x32 .f32)
    (w : FVec Ideal Cert.MatmulRefIdeal.S4096x22016 .fp8e4m3) (ws : FVec Ideal Cert.MatmulRefIdeal.S32x172 .f32) :
    Cert.MatmulRefIdeal.Value.G4 (F := Ideal) x s w ws = Cert.Proof.Matmul.product x s w ws :=
  funext fun i => Cert.Proof.MatmulRef.pay_at x w s ws i

/-- Over the extended reals, the blocked product and the reference end with the same result from the same arguments: at every row
    and column, the sum over the 32 groups of the scaled group products. -/
theorem algebraic : Cert.algebraic_MatmulIdeal_MatmulRefIdeal := by
  intro m ρ m' ρ' _ hagree
  refine ⟨fun c => Cert.Proof.Matmul.G m c, Cert.Proof.Matmul.run m ρ, ?_⟩
  refine (θ_run Cert.MatmulRefIdeal.defs _ _).mono (fun _ h c => ⟨(h c).1.trans ?_, (h c).2⟩)
    (Cert.MatmulRefIdeal.Value.run (F := Ideal) m' ρ')
  obtain ⟨e0, e1, e2, e3⟩ := hagree c
  rw [e0, e1, e2, e3]
  exact reference_eq _ _ _ _

end Cert.Proof.MatmulClaims
-- ==== Proof.Quant.Scale.lean ====
/- The quantiser's arithmetic, operation by operation: a group's greatest magnitude gives an exponent, the exponent gives the power
   of two that is the group's scale and its inverse, and the inverse gives each element's code. -/
module

public import Idealize.ShloMosaic.Lib.Pointwise.Tactic
public import Idealize.ShloMosaic.PureOps.BitExact.Laws

@[expose] public section

noncomputable section

namespace Cert.Proof.Quant

open Idealize.ShloMosaic Idealize.ShloMosaic.TcCoe

variable {F : FTy → Type} [BitOps F] {S : Shape}

/-- The word of each element, with a subnormal replaced by the zero of its sign. -/
def word (x : FVec F S .f32) : IVec S 32 :=
  bitcastToInt (F := F) (φ := .f32) (bitcastToFloat .f32 (select
    (cmpi .eq (andi (bitcastToInt x) (broadcast S 2139095040#32)) (broadcast S 0#32))
    (andi (bitcastToInt x) (broadcast S 2147483648#32)) (bitcastToInt x)))

/-- The exponent field of a word. -/
def field (w : IVec S 32) : IVec S 32 := andi (shrui w (broadcast S 23#32)) (broadcast S 255#32)

/-- The exponent of a magnitude `a`: what `frexp` returns for `a / 448`, and zero where `a` is zero. -/
def exponent (a : FVec F S .f32) : IVec S 32 :=
  have e : IVec S 32 := field (word (mulf a (broadcast S (Scalar.ofBits .f32 0x3B124925#32))))
  select (cmpf .oeq a (broadcast S (Scalar.ofBits .f32 0x00000000#32))) (broadcast S 0#32)
    (select (ori (cmpi .eq e (broadcast S 255#32)) (cmpi .eq e (broadcast S 0#32))) (broadcast S 0#32)
      (subi e (broadcast S 126#32)))

/-- `ldexp(1, n)`: the power of two of exponent `n`. -/
def pow2 (n : IVec S 32) : FVec F S .f32 :=
  have w : IVec S 32 := word (F := F) (broadcast S (Scalar.ofBits .f32 0x3F800000#32))
  have sign : IVec S 32 := andi w (broadcast S 2147483648#32)
  have e : IVec S 32 := addi (field w) (minsi (maxsi n (broadcast S 4294966784#32)) (broadcast S 512#32))
  bitcastToFloat .f32 (select (cmpi .eq (field w) (broadcast S 255#32)) w
    (select (cmpi .eq (field w) (broadcast S 0#32)) sign
      (select (cmpi .sle e (broadcast S 0#32)) sign
        (select (cmpi .sge e (broadcast S 255#32)) (ori sign (broadcast S 2139095040#32))
          (ori (ori sign (shli e (broadcast S 23#32))) (andi w (broadcast S 8388607#32)))))))

/-- The scale of a group whose greatest magnitude is `a`. -/
def scale (a : FVec F S .f32) : FVec F S .f32 := pow2 (exponent a)

/-- The inverse of the scale. -/
def inverse (a : FVec F S .f32) : FVec F S .f32 := pow2 (subi (broadcast S 0#32) (exponent a))

/-- The shape of one element. -/
abbrev One : Shape := ⟨0, ![]⟩

/-- The scale of one group, from its greatest magnitude. -/
def scale1 (a : F .f32) : F .f32 := scale (S := One) (fun _ => a) ix0

/-- The inverse scale of one group, from its greatest magnitude. -/
def inverse1 (a : F .f32) : F .f32 := inverse (S := One) (fun _ => a) ix0

/-- The code of an element: the element times the inverse scale, clipped to ±448 and rounded to the eight-bit format. -/
def code1 (w i : F .f32) : F .fp8e4m3 :=
  truncf .fp8e4m3 (minimumf (broadcast One (Scalar.ofBits .f32 0x43E00000#32))
    (maximumf (broadcast One (Scalar.ofBits .f32 0xC3E00000#32)) (mulf (fun _ => w) (fun _ => i)))) (by decide) ix0

/-- An array of scales is the scale of each element. -/
theorem scale_at (a : FVec F S .f32) (i : S.Idx) : scale a i = scale1 (a i) := rfl

/-- An array of inverse scales is the inverse scale of each element. -/
theorem inverse_at (a : FVec F S .f32) (i : S.Idx) : inverse a i = inverse1 (a i) := rfl

/-- An array of codes is the code of each element. -/
theorem code_at (x v : FVec F S .f32) (h : FTy.bits .fp8e4m3 < FTy.bits .f32) (i : S.Idx) :
    truncf .fp8e4m3 (minimumf (broadcast S (Scalar.ofBits .f32 0x43E00000#32))
      (maximumf (broadcast S (Scalar.ofBits .f32 0xC3E00000#32)) (mulf x v))) h i = code1 (x i) (v i) := rfl

/-- One element widened to 32 bits. -/
def wide (x : F .bf16) : F .f32 := extf (s := One) .f32 (fun _ => x) (by decide) ix0

/-- An array widened is each element widened. -/
theorem wide_at (x : FVec F S .bf16) (h : FTy.bits .bf16 < FTy.bits .f32) (i : S.Idx) : extf .f32 x h i = wide (x i) := rfl

/-- The greatest magnitude of a group of 128 elements, from minus infinity. -/
def most (v : Fin 128 → Bits .f32) : Bits .f32 :=
  (Finset.univ : Finset (Fin 128)).fold (FloatOps.maximumf (F := Bits) (φ := .f32)) (FloatOps.ofBits .f32 0xFF800000#32)
    fun k => absf (F := Bits) (s := One) (φ := .f32) (fun _ => v k) ix0

/-- A fold over the coordinates of an axis of extent 128 is a fold over the first 128 numbers. -/
theorem fold_axis {α : Type} {n : ℕ} (e : n = 128) (op : α → α → α) [Std.Commutative op] [Std.Associative op] (b : α)
    (f : Fin n → α) : (Finset.univ : Finset (Fin n)).fold op b f
      = (Finset.univ : Finset (Fin 128)).fold op b fun k => f (k.cast e.symm) := by
  subst e; rfl

/-- A reduction by maximum over an axis of 128 elements of magnitudes is the greatest magnitude of the elements on that axis. -/
theorem max_at {s t : Shape} {a : Fin s.rank} (h : s.Reduces [a] t) (e : s.size a = 128) (x : FVec Bits s .f32)
    (hφ : FKind.Formats .f32) (hacc : (0xFF800000#32 : BitVec 32) = FKind.maximumf.neutral .f32 hφ) (j : t.Idx) :
    multiReduction .maximumf [a] t (absf x) 0xFF800000#32 h hφ hacc j
      = most fun k => x (h.lift j (k.cast e.symm)) := by
  refine (multiReduction_maximumf_eq_fold (absf x) 0xFF800000#32 h hφ hacc j).trans
    ((h.fold_filter_drop_single FloatOps.maximumf (FloatOps.ofBits .f32 0xFF800000#32) (absf x) j).trans ?_)
  exact fold_axis e _ _ _

end Cert.Proof.Quant
-- ==== Proof.Quant.Block.lean ====
/- What one grid point of the quantiser writes: for each of its 256 rows and each group of 128 columns, the group's scale and the
   codes of the group's elements. -/
module

public import proofs.«01_k».proof.Proof.Quant.Scale
public import proofs.«01_k».proof.Proof.Gen.Quant.Frame
public import Idealize.ShloMosaic.Lib.Pointwise
public import Idealize.ShloMosaic.Lib.Pipeline.Value

@[expose] public section

set_option maxRecDepth 16384

noncomputable section

namespace Cert.Proof.Quant

open Cert.Quant Cert.Quant.Gen Idealize.ShloMosaic Idealize.ShloMosaic.TcCoe Idealize.SL.Sem

section generic

variable {F : FTy → Type} [BitOps F]

/-- Columns `128 g … 128 g + 127` lie in the block. -/
theorem columns_in (g : Fin 32) : S256x4096.Slices ![0, 128 * g.val] S256x128 := by revert g; decide

/-- Column `g` lies in the block of group values. -/
theorem column_in (g : Fin 32) : S256x32.Slices ![0, g.val] S256x1 := by revert g; decide

/-- The greatest magnitudes of group `g`, one per row. -/
def column (v : FVec F S256x4096 .f32) (g : Fin 32) : FVec F S256x1 .f32 :=
  shapeCast S256x1 (multiReduction .maximumf [1] S256 (absf (extractStridedSlice S256x128 ![0, 128 * g.val] v (columns_in g)))
    0xFF800000#32 reduces_S256x128_S256 (.inl rfl) rfl) shapeCasts_S256_S256x1

/-- Thirty-two columns side by side are a block of group values. -/
theorem side_by_side (f : Fin 32 → FVec F S256x1 .f32) :
    Shape.Concatenates ((List.ofFn fun g : Fin 32 => (⟨S256x1, f g⟩ : (s : Shape) × (s.Idx → F .f32))).map (·.1)) S256x32 1 := by
  rw [List.map_ofFn]
  exact (by decide : Shape.Concatenates (List.ofFn fun _ : Fin 32 => S256x1) S256x32 1)

/-- The greatest magnitudes of every row and group. -/
def maxima (v : FVec F S256x4096 .f32) : FVec F S256x32 .f32 :=
  concatenate S256x32 1 (List.ofFn fun g : Fin 32 => (⟨S256x1, column v g⟩ : (s : Shape) × (s.Idx → F .f32))) (side_by_side _)

/-- The kernel's array of greatest magnitudes. -/
theorem maxima_eq (x0 : Vec F S256x4096 .bf16) : k0_pay93 x0 = maxima (k0_pay69 x0) := by
  rfl

/-- The kernel's array of inverse scales. -/
theorem inverse_eq (x0 : Vec F S256x4096 .bf16) : k0_pay97 x0 = inverse (k0_pay93 x0) := by
  rfl

/-- The kernel's block of scales. -/
theorem scales_eq (x0 : Vec F S256x4096 .bf16) :
    out0_2 x0 = View.canon (Val := Elt F) (e := .f32) [⟨r0_1, scale (k0_pay93 x0)⟩] := by
  rfl

/-- The codes of group `g`. -/
def piece (v : FVec F S256x4096 .f32) (i : FVec F S256x32 .f32) (g : Fin 32) : FVec F S256x128 .fp8e4m3 :=
  truncf .fp8e4m3 (minimumf (broadcast S256x128 (Scalar.ofBits .f32 0x43E00000#32))
    (maximumf (broadcast S256x128 (Scalar.ofBits .f32 0xC3E00000#32))
      (mulf (extractStridedSlice S256x128 ![0, 128 * g.val] v (columns_in g))
        (broadcastTo S256x128 (extractStridedSlice S256x1 ![0, g.val] i (column_in g)) broadcasts_S256x1_S256x128)))) bitsLt_fp8e4m3_f32

/-- Columns `128 g … 128 g + 127` of the block of codes. -/
theorem codes_in (g : Fin 32) : ∀ a, (![0, 128 * g.val] : Fin 2 → Nat) a + S256x128.size a ≤ S256x4096.size a := by
  revert g; decide

/-- The kernel's block of codes is one piece of 128 columns per group. -/
theorem codes_eq (x0 : Vec F S256x4096 .bf16) :
    out0_1 x0 = View.canon (Val := Elt F) (e := .fp8e4m3) (List.ofFn fun g : Fin 32 =>
      (⟨Rect.unit (s := S256x4096) ![0, 128 * g.rev.val] S256x128.size (codes_in g.rev),
        piece (k0_pay69 x0) (k0_pay97 x0) g.rev⟩ : View.Piece (Elt F) S256x4096 .fp8e4m3)) := by
  rfl

/-- The widened block is each element widened. -/
theorem wide_eq (x0 : Vec F S256x4096 .bf16) (y : S256x4096.Idx) : k0_pay69 x0 y = wide (x0 y) := by
  unfold k0_pay69 k0_pay4
  rw [shapeCast_self, View.ld_unit_zero (S := S256x4096) (by funext a; fin_cases a <;> rfl) _ x0]
  rfl

end generic

/-- The greatest magnitude of a row's group of 128 columns. -/
def group {m : ℕ} (x : (⟨2, ![m, 4096]⟩ : Shape).Idx → Bits .bf16) (r : Fin m) (g : Fin 32) : Bits .f32 :=
  most fun k => wide (F := Bits) (x (ix2 r ⟨128 * g.val + k.val, by have := g.isLt; have := k.isLt; omega⟩))

/-- A vector of 256 values as a column, at an index. -/
theorem as_column (w : S256.Idx → Bits .f32) (y : S256x1.Idx) : shapeCast S256x1 w shapeCasts_S256_S256x1 y = w (ix1 (y 0)) := by
  pointwise

/-- One entry of a column of greatest magnitudes. -/
theorem column_at (x0 : Vec Bits S256x4096 .bf16) (g : Fin 32) (y : S256x1.Idx) :
    column (k0_pay69 x0) g y = group (m := 256) x0 (y 0) g := by
  unfold column
  have e : ∀ j : S256.Idx, multiReduction .maximumf [1] S256
      (absf (extractStridedSlice S256x128 ![0, 128 * g.val] (k0_pay69 x0) (columns_in g)))
      0xFF800000#32 reduces_S256x128_S256 (.inl rfl) rfl j = group (m := 256) x0 (j 0) g := by
    intro j
    refine (max_at reduces_S256x128_S256 rfl _ _ _ j).trans (congrArg most (funext fun k => ?_))
    refine (congrArg (k0_pay69 x0) (a₂ := ix2 (j 0) ⟨128 * g.val + k.val, by have := g.isLt; have := k.isLt; omega⟩) ?_).trans (wide_eq x0 _)
    funext b; apply Fin.ext
    match b with
    | ⟨0, _⟩ => exact Nat.zero_add _
    | ⟨1, _⟩ => rfl
  exact (as_column _ y).trans (e (ix1 (y 0)))

/-- The kernel's greatest magnitude of a row and group. -/
theorem maxima_at (x0 : Vec Bits S256x4096 .bf16) (y : S256x32.Idx) :
    k0_pay93 (F := Bits) x0 y = group (m := 256) x0 (y 0) (y 1) := by
  rw [maxima_eq]
  unfold maxima
  refine (concatenate_ofFn_unit_apply (s₁ := S256x1) 1 (column (k0_pay69 x0)) (side_by_side _) rfl rfl y (y 1) rfl
    (ix2 (y 0) ⟨0, Nat.one_pos⟩) fun b hb => ?_).trans (column_at x0 (y 1) _)
  match b with
  | ⟨0, _⟩ => rfl
  | ⟨1, _⟩ => exact absurd rfl hb

/-- The scales a grid point writes. -/
def scalesOf {m : ℕ} (x : (⟨2, ![m, 4096]⟩ : Shape).Idx → Bits .bf16) : (⟨2, ![m, 32]⟩ : Shape).Idx → Bits .f32 :=
  fun y => scale1 (F := Bits) (group x (y 0) (y 1))

/-- The group of a column. -/
def groupOf (c : Fin 4096) : Fin 32 := ⟨c.val / 128, by have := c.isLt; omega⟩

/-- The codes a grid point writes. -/
def codesOf {m : ℕ} (x : (⟨2, ![m, 4096]⟩ : Shape).Idx → Bits .bf16) : (⟨2, ![m, 4096]⟩ : Shape).Idx → Bits .fp8e4m3 :=
  fun y => code1 (F := Bits) (wide (F := Bits) (x y)) (inverse1 (F := Bits) (group x (y 0) (groupOf (y 1))))

/-- The block of scales a grid point writes, at an index. -/
theorem scales_at (x0 : Vec Bits S256x4096 .bf16) (y : S256x32.Idx) :
    out0_2 (F := Bits) x0 y = scalesOf (m := 256) x0 y := by
  rw [scales_eq, View.canon_unit_zero (by funext a; fin_cases a <;> rfl), scale_at, maxima_at]
  rfl

/-- One entry of a group's piece of codes. -/
theorem piece_at (x0 : Vec Bits S256x4096 .bf16) (g : Fin 32) (y : S256x128.Idx) :
    piece (k0_pay69 x0) (k0_pay97 x0) g y
      = codesOf (m := 256) x0 ((Rect.unit (s := S256x4096) ![0, 128 * g.val] S256x128.size (codes_in g)).emb y) := by
  have hy : (y 1).val < 128 := (y 1).isLt
  have hg : groupOf ((Rect.unit (s := S256x4096) ![0, 128 * g.val] S256x128.size (codes_in g)).emb y 1) = g := by
    apply Fin.ext
    show (128 * g.val + 1 * (y 1).val) / 128 = g.val
    omega
  unfold piece codesOf
  rw [code_at, hg]
  refine congrArg₂ code1 ?_ ?_
  · refine (congrArg (k0_pay69 x0) ?_).trans (wide_eq x0 _)
    funext b; apply Fin.ext
    match b with
    | ⟨0, _⟩ => show 0 + (y 0).val = 0 + 1 * (y 0).val; omega
    | ⟨1, _⟩ => show 128 * g.val + (y 1).val = 128 * g.val + 1 * (y 1).val; omega
  · have e : broadcastTo S256x128 (extractStridedSlice S256x1 ![0, g.val] (k0_pay97 x0) (column_in g)) broadcasts_S256x1_S256x128 y
        = k0_pay97 x0 (ix2 (y 0) g) := by
      generalize k0_pay97 x0 = v
      pointwise
    rw [e, inverse_eq, inverse_at, maxima_at]
    refine congrArg inverse1 (congrArg (fun r => group (m := 256) x0 r g) (Fin.ext ?_))
    show (y 0).val = 0 + 1 * (y 0).val
    omega

/-- The block of codes a grid point writes, at an index. -/
theorem codes_at (x0 : Vec Bits S256x4096 .bf16) (y : S256x4096.Idx) :
    out0_1 (F := Bits) x0 y = codesOf (m := 256) x0 y := by
  rw [codes_eq]
  refine View.canon_apply_of_pieces (Val := Elt Bits) (e := .fp8e4m3) (codesOf (m := 256) x0) _ ?_ y
    (cover0_1 _ _ _ _ _ _ _ _ _ _ _ _ _ _ _ _ _ _ _ _ _ _ _ _ _ _ _ _ _ _ _ _ y)
  intro p hp x
  obtain ⟨g, rfl⟩ := List.mem_ofFn.mp hp
  exact piece_at x0 g.rev x

end Cert.Proof.Quant
-- ==== Proof.Quant.Array.lean ====
/- What the quantiser's two result arrays hold after the run: at every row, the scale of each group of 128 columns, and the code of
   each element under its group's scale. -/
module

public import proofs.«01_k».proof.Proof.Quant.Block

@[expose] public section

set_option maxRecDepth 16384

noncomputable section

namespace Cert.Proof.Quant

open Cert.Quant Cert.Quant.Gen Idealize.ShloMosaic Idealize.ShloMosaic.TcCoe Idealize.SL.Sem
open Idealize.ShloMosaic.Pipeline (Dat)

variable (m : (ℓ : Loc nD τ sig) → Buf (Elt Bits) ℓ) (ρ : Dev nD → PrngReg)

/-- The activations as rows: the argument array in two dimensions. -/
abbrev rows (x : S3x768x4096.Idx → Bits .bf16) : S2304x4096.Idx → Bits .bf16 :=
  shapeCast S2304x4096 x shapeCasts_S3x768x4096_S2304x4096

/-- The rows of device `c`'s argument array. -/
abbrev X (c : Dev nD) : S2304x4096.Idx → Bits .bf16 := rows (m ((c : Thread nD τ).loc main_arg0))

/-- The region finds the activations as rows. -/
theorem entry (c : Dev nD) : V m c main_v0
    = shapeCast S2304x4096 (m ((c : Thread nD τ).loc main_arg0) : S3x768x4096.Idx → Bits .bf16) shapeCasts_S3x768x4096_S2304x4096 := by
  unfold_abbrev_sides
  simp only [hostOps0, List.flatten_cons, List.flatten_nil, List.append_nil]
  after_results
  rfl

/-- The block offsets of the three windows at grid point `t`: row block `t`. -/
theorem offsets (t : Fin cfg0.N) :
    (win0_0.index t 0 * win0_0.size 0 = 256 * t.val ∧ win0_0.index t 1 * win0_0.size 1 = 0)
    ∧ (win0_1.index t 0 * win0_1.size 0 = 256 * t.val ∧ win0_1.index t 1 * win0_1.size 1 = 0)
    ∧ (win0_2.index t 0 * win0_2.size 0 = 256 * t.val ∧ win0_2.index t 1 * win0_2.size 1 = 0) := by
  revert t; decide +kernel

/-- No block of the results is cut. -/
theorem sizes (t : Fin cfg0.N) : (win0_1.xsize (grid0.coords t) 0 = 256 ∧ win0_1.xsize (grid0.coords t) 1 = 4096)
    ∧ (win0_2.xsize (grid0.coords t) 0 = 256 ∧ win0_2.xsize (grid0.coords t) 1 = 32) := by
  revert t; decide +kernel

/-- An index of the codes is in point `t`'s block when its row is in the block's range. -/
theorem mem_codes (t : Fin cfg0.N) (i : S2304x4096.Idx) (h : 256 * t.val ≤ (i 0).val ∧ (i 0).val < 256 * t.val + 256) :
    i ∈ ((cfg0.win 1).blk t).view.set := by
  show i ∈ ((View.whole main_v1_0).slice (win0_1.rect t)).set
  rw [View.set_slice_whole, Rect.mem_set_unit]
  obtain ⟨-, ⟨e0, e1⟩, -⟩ := offsets t
  obtain ⟨⟨s0, s1⟩, -⟩ := sizes t
  have h1 : (i 1).val < 4096 := (i 1).isLt
  intro a
  match a with
  | ⟨0, _⟩ => show win0_1.index t 0 * win0_1.size 0 ≤ (i 0).val ∧ (i 0).val < win0_1.index t 0 * win0_1.size 0 + win0_1.xsize (grid0.coords t) 0
              rw [e0, s0]; exact h
  | ⟨1, _⟩ => show win0_1.index t 1 * win0_1.size 1 ≤ (i 1).val ∧ (i 1).val < win0_1.index t 1 * win0_1.size 1 + win0_1.xsize (grid0.coords t) 1
              rw [e1, s1]; omega

/-- An index of the scales is in point `t`'s block when its row is in the block's range. -/
theorem mem_scales (t : Fin cfg0.N) (i : S2304x32.Idx) (h : 256 * t.val ≤ (i 0).val ∧ (i 0).val < 256 * t.val + 256) :
    i ∈ ((cfg0.win 2).blk t).view.set := by
  show i ∈ ((View.whole main_v1_1).slice (win0_2.rect t)).set
  rw [View.set_slice_whole, Rect.mem_set_unit]
  obtain ⟨-, -, e0, e1⟩ := offsets t
  obtain ⟨-, s0, s1⟩ := sizes t
  have h1 : (i 1).val < 32 := (i 1).isLt
  intro a
  match a with
  | ⟨0, _⟩ => show win0_2.index t 0 * win0_2.size 0 ≤ (i 0).val ∧ (i 0).val < win0_2.index t 0 * win0_2.size 0 + win0_2.xsize (grid0.coords t) 0
              rw [e0, s0]; exact h
  | ⟨1, _⟩ => show win0_2.index t 1 * win0_2.size 1 ≤ (i 1).val ∧ (i 1).val < win0_2.index t 1 * win0_2.size 1 + win0_2.xsize (grid0.coords t) 1
              rw [e1, s1]; omega

/-- The block of a row. -/
theorem block_of (r : ℕ) (h : r < 2304) : ∃ t : Fin cfg0.N, 256 * t.val ≤ r ∧ r < 256 * t.val + 256 := by
  have hN : cfg0.N = 9 := N_0
  refine ⟨⟨r / 256, by omega⟩, ?_⟩
  dsimp only
  omega

/-- A grid point's block of activations is its 256 rows. -/
theorem block_at (c : Dev nD) (t : Fin cfg0.N) (y : S256x4096.Idx) (i : S2304x4096.Idx) (h0 : (i 0).val = 256 * t.val + (y 0).val)
    (h1 : (i 1).val = (y 1).val) : iblk m c 0 t y = X m c i := by
  show V m c main_v0 ((win0_0.rect t).idx y) = _
  rw [entry]
  refine congrArg (X m c) (funext fun a => Fin.ext ?_)
  obtain ⟨⟨e0, e1⟩, -⟩ := offsets t
  match a with
  | ⟨0, _⟩ => show win0_0.index t 0 * win0_0.size 0 + 1 * (y 0).val = (i 0).val; omega
  | ⟨1, _⟩ => show win0_0.index t 1 * win0_0.size 1 + 1 * (y 1).val = (i 1).val; omega

/-- The greatest magnitude of a group of a block is that of the same group of the block's row in the whole array. -/
theorem group_at (c : Dev nD) (t : Fin cfg0.N) (r : Fin 256) (r' : Fin 2304) (g : Fin 32) (h : r'.val = 256 * t.val + r.val) :
    group (m := 256) (iblk m c 0 t) r g = group (m := 2304) (X m c) r' g := by
  unfold group
  exact congrArg most (funext fun k => congrArg wide (block_at m c t _ _ h rfl))

/-- What point `t` writes back is block `t` of the codes of the whole array. -/
theorem flushed_codes (c : Dev nD) (t : Fin cfg0.N) :
    (dats m 0 c).flushed 1 t = ((cfg0.win 1).blk t).view.read (Elt Bits) (codesOf (m := 2304) (X m c)) := by
  show (cfg0.win 1).cut (grid0.coords t) ((dats m 0 c).after 1 t) = _
  rw [after0_1]
  funext y
  refine (codes_at (iblk m c 0 t) y).trans ?_
  obtain ⟨-, ⟨e0, e1⟩, -⟩ := offsets t
  have i0 : (((win0_1.rect t).idx y) 0).val = 256 * t.val + (y 0).val := by
    show win0_1.index t 0 * win0_1.size 0 + 1 * (y 0).val = _; omega
  have i1 : (((win0_1.rect t).idx y) 1).val = (y 1).val := by
    show win0_1.index t 1 * win0_1.size 1 + 1 * (y 1).val = _; omega
  show codesOf (m := 256) (iblk m c 0 t) y = codesOf (m := 2304) (X m c) ((win0_1.rect t).idx y)
  unfold codesOf
  rw [block_at m c t y _ i0 i1, group_at m c t _ _ _ i0,
    show groupOf ((win0_1.rect t).idx y 1) = groupOf (y 1) from congrArg groupOf (Fin.ext i1)]

/-- What point `t` writes back is block `t` of the scales of the whole array. -/
theorem flushed_scales (c : Dev nD) (t : Fin cfg0.N) :
    (dats m 0 c).flushed 2 t = ((cfg0.win 2).blk t).view.read (Elt Bits) (scalesOf (m := 2304) (X m c)) := by
  show (cfg0.win 2).cut (grid0.coords t) ((dats m 0 c).after 2 t) = _
  rw [after0_2]
  funext y
  refine (scales_at (iblk m c 0 t) y).trans ?_
  obtain ⟨-, -, e0, e1⟩ := offsets t
  have i0 : (((win0_2.rect t).idx y) 0).val = 256 * t.val + (y 0).val := by
    show win0_2.index t 0 * win0_2.size 0 + 1 * (y 0).val = _; omega
  have i1 : (((win0_2.rect t).idx y) 1).val = (y 1).val := by
    show win0_2.index t 1 * win0_2.size 1 + 1 * (y 1).val = _; omega
  show scalesOf (m := 256) (iblk m c 0 t) y = scalesOf (m := 2304) (X m c) ((win0_2.rect t).idx y)
  unfold scalesOf
  exact congrArg scale1 ((group_at m c t (y 0) ((win0_2.rect t).idx y 0) (y 1) i0).trans
    (congrArg (group (m := 2304) (X m c) ((win0_2.rect t).idx y 0)) (Fin.ext i1.symm)))

/-- After the region the array of codes holds the codes of the whole array. -/
theorem final_codes (c : Dev nD) : (dats m 0 c).arrAt 1 cfg0.N = codesOf (m := 2304) (X m c) :=
  (dats m 0 c).arrAt_eq_of_cover 1 (codesOf (m := 2304) (X m c)) (fun t _ => flushed_codes m c t) fun i => by
    obtain ⟨t, h⟩ := block_of (i 0).val (i 0).isLt
    exact ⟨t, flush0_1 _, mem_codes t i h⟩

/-- After the region the array of scales holds the scales of the whole array. -/
theorem final_scales (c : Dev nD) : (dats m 0 c).arrAt 2 cfg0.N = scalesOf (m := 2304) (X m c) :=
  (dats m 0 c).arrAt_eq_of_cover 2 (scalesOf (m := 2304) (X m c)) (fun t _ => flushed_scales m c t) fun i => by
    obtain ⟨t, h⟩ := block_of (i 0).val (i 0).isLt
    exact ⟨t, flush0_2 _, mem_scales t i h⟩

/-- The codes as a result of the kernel: three batches of 768 rows. -/
abbrev codes (x : S3x768x4096.Idx → Bits .bf16) : S3x768x4096.Idx → Bits .fp8e4m3 :=
  shapeCast S3x768x4096 (codesOf (m := 2304) (rows x)) shapeCasts_S2304x4096_S3x768x4096

/-- The scales as a result of the kernel: three batches of 768 rows. -/
abbrev scales (x : S3x768x4096.Idx → Bits .bf16) : S3x768x32.Idx → Bits .f32 :=
  shapeCast S3x768x32 (scalesOf (m := 2304) (rows x)) shapeCasts_S2304x32_S3x768x32

/-- What the lines after the region leave in the codes. -/
theorem tail_codes (c : Dev nD) : Pipeline.afterTail₀ cfgs (dats m) 0 (V0 m) [hostOps1] c main_v2
    = codes (m ((c : Thread nD τ).loc main_arg0)) := by
  have e : Pipeline.withArrays (cfgs 0).spec c (V0 m c) (fun w => (dats m 0 c).arrAt w (cfgs 0).N) (Proc.tc.devRef main_v1_0)
      = codesOf (m := 2304) (X m c) :=
    (Pipeline.withArrays_arr (cfgs 0).spec launch0.win.arr_inj c (V0 m c) (fun w => (dats m 0 c).arrAt w (cfgs 0).N) 1).trans
      (final_codes m c)
  unfold Pipeline.afterTail₀
  simp only [hostOps1, List.flatten_cons, List.flatten_nil, List.append_nil]
  after_results
  rw [e]
  rfl

/-- What the lines after the region leave in the scales. -/
theorem tail_scales (c : Dev nD) : Pipeline.afterTail₀ cfgs (dats m) 0 (V0 m) [hostOps1] c main_v3
    = scales (m ((c : Thread nD τ).loc main_arg0)) := by
  have e : Pipeline.withArrays (cfgs 0).spec c (V0 m c) (fun w => (dats m 0 c).arrAt w (cfgs 0).N) (Proc.tc.devRef main_v1_1)
      = scalesOf (m := 2304) (X m c) :=
    (Pipeline.withArrays_arr (cfgs 0).spec launch0.win.arr_inj c (V0 m c) (fun w => (dats m 0 c).arrAt w (cfgs 0).N) 2).trans
      (final_scales m c)
  unfold Pipeline.afterTail₀
  simp only [hostOps1, List.flatten_cons, List.flatten_nil, List.append_nil]
  after_results
  rw [e]
  rfl

/-- Every run of the quantiser ends with the codes and the scales in its results and the activations unchanged. -/
theorem run : θ_run defs (onTc (τ := τ) (main (F := Bits))) ⟨m, fun _ => 0, ρ⟩ fun r => ∀ c : Dev nD,
      r.2.mem ((c : Thread nD τ).loc main_v2) = codes (m ((c : Thread nD τ).loc main_arg0))
      ∧ r.2.mem ((c : Thread nD τ).loc main_v3) = scales (m ((c : Thread nD τ).loc main_arg0))
      ∧ r.2.mem ((c : Thread nD τ).loc main_arg0) = m ((c : Thread nD τ).loc main_arg0) :=
  (θ_run defs _ _).mono (fun _ h c =>
    ⟨((h c).2 main_v2 (Pipeline.mem_restRefs_of main_v2 (by decide) (by decide))).trans (tail_codes m c),
      ((h c).2 main_v3 (Pipeline.mem_restRefs_of main_v3 (by decide) (by decide))).trans (tail_scales m c),
      ((h c).2 main_arg0 (Pipeline.mem_restRefs_of main_arg0 (by decide) (by decide))).trans (W_main_arg0 m (dats m) c)⟩)
    (run_main m ρ)

end Cert.Proof.Quant
-- ==== Proof.Quant.Ref.lean ====
/- The reference quantiser, read at an index: the same scale of each row's group of 128 columns, and the same code of each element. -/
module

public import proofs.«01_k».proof.Proof.Quant.Array
public import proofs.«01_k».proof.Proof.Gen.QuantRef.Value

@[expose] public section

set_option maxRecDepth 16384

noncomputable section

namespace Cert.Proof.QuantRef

open Cert.QuantRef Cert.QuantRef.Gen Idealize.ShloMosaic Idealize.ShloMosaic.TcCoe Idealize.SL.Sem
open Cert.Proof.Quant (scale inverse scale1 inverse1 code1 wide most group groupOf codesOf scalesOf rows codes scales)

section generic

variable {F : FTy → Type} [BitOps F]

/-- The reference's scales are the scale of its greatest magnitudes. -/
theorem scales_eq (x : Vec F S3x768x4096 .bf16) : Value.G2 x = scale (k0_pay3 x) := by
  refine (rfl : _ = scale (k0_pay3 (View.ld (Val := Elt F) (e' := .bf16) x r0_0))).trans ?_
  rw [View.ld_unit_zero (S := S3x768x4096) Value.hz0 _ x]

/-- The reference's codes: the inverse scales spread over their groups, times the elements, clipped and rounded. -/
theorem codes_eq (x : Vec F S3x768x4096 .bf16) : Value.G1 x = shapeCast S3x768x4096
    (truncf .fp8e4m3 (minimumf (broadcast S3x768x32x128 (Scalar.ofBits .f32 0x43E00000#32))
      (maximumf (broadcast S3x768x32x128 (Scalar.ofBits .f32 0xC3E00000#32))
        (mulf (k0_pay2 x) (broadcastTo S3x768x32x128 (shapeCast S3x768x32x1 (inverse (k0_pay3 x)) shapeCasts_S3x768x32_S3x768x32x1)
          broadcasts_S3x768x32x1_S3x768x32x128)))) bitsLt_fp8e4m3_f32) shapeCasts_S3x768x32x128_S3x768x4096 := by
  refine (rfl : _ = shapeCast S3x768x4096
    (truncf .fp8e4m3 (minimumf (broadcast S3x768x32x128 (Scalar.ofBits .f32 0x43E00000#32))
      (maximumf (broadcast S3x768x32x128 (Scalar.ofBits .f32 0xC3E00000#32))
        (mulf (k0_pay2 x) (broadcastTo S3x768x32x128 (shapeCast S3x768x32x1
          (inverse (k0_pay3 (View.ld (Val := Elt F) (e' := .bf16) x r0_0))) shapeCasts_S3x768x32_S3x768x32x1)
          broadcasts_S3x768x32x1_S3x768x32x128)))) bitsLt_fp8e4m3_f32) shapeCasts_S3x768x32x128_S3x768x4096).trans ?_
  rw [View.ld_unit_zero (S := S3x768x4096) Value.hz0 _ x]

end generic

/-- Row `b, s` of the activations in three dimensions. -/
def row (b : Fin 3) (s : Fin 768) : Fin 2304 := ⟨b.val * 768 + s.val, by have := b.isLt; have := s.isLt; omega⟩

/-- An element of the activations as rows. -/
theorem rows_at (x : S3x768x4096.Idx → Bits .bf16) (b : Fin 3) (s : Fin 768) (c : Fin 4096) :
    rows x (ix2 (row b s) c) = x (ix3 b s c) := by
  have hs : s.val < 768 := s.isLt
  unfold rows
  pointwise
  refine congrArg x (congrArg₂ (fun b s => ix3 b s c) (Fin.ext ?_) (Fin.ext ?_))
  · show (b.val * 768 + s.val) / 768 = b.val; omega
  · show (b.val * 768 + s.val) % 768 = s.val; omega

/-- The codes as three batches, at an index. -/
theorem codes_at (x : S3x768x4096.Idx → Bits .bf16) (i : S3x768x4096.Idx) :
    codes x i = codesOf (m := 2304) (rows x) (ix2 (row (i 0) (i 1)) (i 2)) := by
  unfold codes
  generalize codesOf (m := 2304) (rows x) = v
  pointwise
  rfl

/-- The scales as three batches, at an index. -/
theorem scales_at (x : S3x768x4096.Idx → Bits .bf16) (i : S3x768x32.Idx) :
    scales x i = scalesOf (m := 2304) (rows x) (ix2 (row (i 0) (i 1)) (i 2)) := by
  unfold scales
  generalize scalesOf (m := 2304) (rows x) = v
  pointwise
  rfl

/-- The elements in groups, at an index. -/
theorem groups_at (x : Vec Bits S3x768x4096 .bf16) (b : Fin 3) (s : Fin 768) (g : Fin 32) (k : Fin 128) :
    k0_pay2 (F := Bits) x (ix4 b s g k) = wide (x (ix3 b s ⟨128 * g.val + k.val, by have := g.isLt; have := k.isLt; omega⟩)) := by
  unfold k0_pay2
  generalize hv : extf (F := Bits) .f32 x bitsLt_bf16_f32 = v
  pointwise
  rw [← hv]
  refine congrArg wide (congrArg x (congrArg (ix3 b s) (Fin.ext ?_)))
  exact congrArg (· + k.val) (Nat.mul_comm _ _)

/-- The reference's greatest magnitude of a row and group is that of the group in the activations as rows. -/
theorem most_at (x : Vec Bits S3x768x4096 .bf16) (b : Fin 3) (s : Fin 768) (g : Fin 32) :
    k0_pay3 (F := Bits) x (ix3 b s g) = group (m := 2304) (rows x) (row b s) g := by
  refine (Quant.max_at reduces_S3x768x32x128_S3x768x32 rfl (k0_pay2 (F := Bits) x) (.inl rfl) rfl (ix3 b s g)).trans ?_
  unfold group
  refine congrArg most (funext fun k => ?_)
  rw [rows_at]
  refine Eq.trans (congrArg (k0_pay2 (F := Bits) x) ?_) (groups_at x b s g k)
  funext a; apply Fin.ext
  match a with
  | ⟨0, _⟩ => rfl
  | ⟨1, _⟩ => rfl
  | ⟨2, _⟩ => rfl
  | ⟨3, _⟩ => rfl

/-- The reference's scales are the kernel's. -/
theorem scales_same (x : Vec Bits S3x768x4096 .bf16) : Value.G2 (F := Bits) x = scales x := by
  funext i
  rw [scales_eq, Quant.scale_at, scales_at]
  refine congrArg scale1 ?_
  refine (congrArg (k0_pay3 (F := Bits) x) ?_).trans (most_at x (i 0) (i 1) (i 2))
  exact eq_ix3 i

/-- The inverse scales spread over their groups, at an index. -/
theorem spread_at (v : FVec Bits S3x768x32 .f32) (b : Fin 3) (s : Fin 768) (g : Fin 32) (k : Fin 128) :
    broadcastTo S3x768x32x128 (shapeCast S3x768x32x1 v shapeCasts_S3x768x32_S3x768x32x1)
      broadcasts_S3x768x32x1_S3x768x32x128 (ix4 b s g k) = v (ix3 b s g) := by
  pointwise

/-- Codes in groups as rows of 4096, at an index. -/
theorem joined_at (v : FVec Bits S3x768x32x128 .fp8e4m3) (b : Fin 3) (s : Fin 768) (c : Fin 4096) :
    shapeCast S3x768x4096 v shapeCasts_S3x768x32x128_S3x768x4096 (ix3 b s c)
      = v (ix4 b s (groupOf c) ⟨c.val % 128, Nat.mod_lt _ (by decide)⟩) := by
  pointwise
  rfl

/-- The reference's codes are the kernel's. -/
theorem codes_same (x : Vec Bits S3x768x4096 .bf16) : Value.G1 (F := Bits) x = codes x := by
  funext i
  obtain ⟨b, s, c, rfl⟩ : ∃ b s c, i = ix3 b s c := ⟨i 0, i 1, i 2, eq_ix3 i⟩
  rw [codes_eq, joined_at, Quant.code_at, groups_at, spread_at, Quant.inverse_at, most_at, codes_at]
  have e : (⟨128 * (groupOf c).val + c.val % 128, by have := c.isLt; have : (groupOf c).val = c.val / 128 := rfl; omega⟩ : Fin 4096) = c :=
    Fin.ext (Nat.div_add_mod _ _)
  show code1 (wide (x (ix3 b s _))) (inverse1 (group (m := 2304) (rows x) (row b s) (groupOf c)))
    = code1 (wide (rows x (ix2 (row b s) c))) (inverse1 (group (m := 2304) (rows x) (row b s) (groupOf c)))
  rw [rows_at, e]

end Cert.Proof.QuantRef
-- ==== Proof.Quant.Claims.lean ====
/- The claim about the quantiser: bit for bit, the kernel and the reference end with the same codes and the same scales. -/
module

public import proofs.«01_k».proof.Defs
public import proofs.«01_k».proof.Proof.Quant.Ref

@[expose] public section

noncomputable section

namespace Cert.Proof.QuantClaims

open Idealize.ShloMosaic Idealize.ShloMosaic.TcCoe Idealize.SL.Sem

/-- From the same activations, the quantiser and the reference end with the same codes and the same scales, bit for bit. -/
theorem bitexact : Cert.bitexact_Quant_QuantRef := by
  intro m ρ m' ρ' _ hagree
  refine ⟨fun c => Cert.Proof.Quant.codes (m ((c.tc : Thread Cert.Quant.nD Cert.Quant.τ).loc Cert.Quant.main_arg0)),
    fun c => Cert.Proof.Quant.scales (m ((c.tc : Thread Cert.Quant.nD Cert.Quant.τ).loc Cert.Quant.main_arg0)),
    Cert.Proof.Quant.run m ρ, ?_⟩
  refine (θ_run Cert.QuantRef.defs _ _).mono (fun _ h c => ⟨(h c).1.trans ?_, (h c).2.1.trans ?_, (h c).2.2⟩)
    (Cert.QuantRef.Value.run (F := Bits) m' ρ')
  · rw [hagree c]
    exact Cert.Proof.QuantRef.codes_same _
  · rw [hagree c]
    exact Cert.Proof.QuantRef.scales_same _

end Cert.Proof.QuantClaims
-- ==== Proof.lean ====
module

public import proofs.«01_k».proof.Proof.Matmul.Claims
public import proofs.«01_k».proof.Proof.Quant.Claims
public import proofs.«01_k».proof.Proof.Gen.Whole.Frame
public import proofs.«01_k».proof.Proof.Gen.Quant.Frame
public import proofs.«01_k».proof.Proof.Gen.QuantRef.Value

@[expose] public section

/-- Everything that is claimed: every program runs to its end and leaves its arguments as they were, the quantiser ends
    with its reference's codes and scales bit for bit, and the block product ends with its reference's result over the
    extended reals. -/
theorem Cert.Proof.claim : Cert.Claim :=
  ⟨Cert.Whole.Gen.facts, Cert.Quant.Gen.facts, Cert.QuantRef.Gen.facts, Cert.Matmul.Gen.facts,
    Cert.MatmulIdeal.Gen.facts, Cert.MatmulRefIdeal.Gen.facts,
    fun m ρ _ => Cert.Whole.Gen.frame m ρ, fun m ρ _ => Cert.Quant.Gen.frame m ρ,
    fun m ρ _ => Cert.QuantRef.Gen.frame m ρ, fun m ρ _ => Cert.Matmul.Gen.frame m ρ,
    fun m ρ _ => Cert.MatmulIdeal.Gen.frame m ρ, fun m ρ _ => Cert.MatmulRefIdeal.Gen.frame m ρ,
    Cert.Proof.QuantClaims.bitexact, trivial, Cert.Proof.MatmulClaims.algebraic⟩
